-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_maxima_noise_below_one [hPre_finite_maxima_noise_below_one : Cert.Pre_finite_maxima_noise_below_one.Facts] (m : (ℓ : Loc Cert.KernelIdeal.nD Cert.KernelIdeal.τ Cert.KernelIdeal.sig) → Buf (Elt Ideal) ℓ) : Prop :=
  ∀ c : Dev Cert.KernelIdeal.nD,
    (Cert.Pre_finite_maxima_noise_below_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_maxima_noise_below_one [hPre_finite_maxima_noise_below_one : Cert.Pre_finite_maxima_noise_below_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_maxima_noise_below_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_maxima_noise_below_one [hKernelIdeal : Cert.KernelIdeal.Facts] [hPre_finite_maxima_noise_below_one : Cert.Pre_finite_maxima_noise_below_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_maxima_noise_below_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_maxima_noise_below_one [hReferenceIdeal : Cert.ReferenceIdeal.Facts] [hPre_finite_maxima_noise_below_one : Cert.Pre_finite_maxima_noise_below_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_maxima_noise_below_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_maxima_noise_below_one [hKernelIdeal : Cert.KernelIdeal.Facts] [hReferenceIdeal : Cert.ReferenceIdeal.Facts] [hPre_finite_maxima_noise_below_one : Cert.Pre_finite_maxima_noise_below_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_maxima_noise_below_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_maxima_noise_below_one : Cert.Pre_finite_maxima_noise_below_one.Facts),
    quiescent_Kernel (hKernel := hKernel)
    ∧ quiescent_KernelIdeal (hKernelIdeal := hKernelIdeal)
    ∧ quiescent_KernelIdeal_pre_finite_maxima_noise_below_one (hKernelIdeal := hKernelIdeal) (hPre_finite_maxima_noise_below_one := hPre_finite_maxima_noise_below_one)
    ∧ quiescent_ReferenceIdeal (hReferenceIdeal := hReferenceIdeal)
    ∧ quiescent_ReferenceIdeal_pre_finite_maxima_noise_below_one (hReferenceIdeal := hReferenceIdeal) (hPre_finite_maxima_noise_below_one := hPre_finite_maxima_noise_below_one)
    ∧ preserves_Kernel_KernelIdeal
    ∧ algebraic_KernelIdeal_ReferenceIdeal_pre_finite_maxima_noise_below_one (hKernelIdeal := hKernelIdeal) (hReferenceIdeal := hReferenceIdeal) (hPre_finite_maxima_noise_below_one := hPre_finite_maxima_noise_below_one)
-- ==== Pre_finite_maxima_noise_below_one.lean ====
abbrev S64x100000 : Shape := ⟨2, ![64, 100000]⟩
abbrev S_ : Shape := ⟨0, ![]⟩
abbrev S64 : Shape := ⟨1, ![64]⟩
abbrev S64x1 : Shape := ⟨2, ![64, 1]⟩

class Facts : Prop where
  reducesTo_S64x100000_S64_d1 : S64x100000.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S_S64x100000 : S_.BroadcastsInDim S64x100000 (![] : Fin 0 → Fin S64x100000.rank)
  bcast_S64x1_S64x100000_0_1 : S64x1.BroadcastsInDim S64x100000 (![0, 1] : Fin 2 → Fin S64x100000.rank)

variable [Facts]

def fn {F : FTy → Type} [FloatOps F] (main_arg0 : FVec F S64x100000 .f32) (main_arg1 : FVec F S64x100000 .f32) : IVec S64x100000 1 :=
  let main_cst : FVec F S_ .f32 := constant S_ .f32 0xFF800000#32
  let main_v0 : FVec F S64 .f32 := (fun x v => Host.reduce FloatOps.maximumf x v reducesTo_S64x100000_S64_d1 h_S_) main_arg0 main_cst
  let main_v1 : FVec F S64x1 .f32 := broadcastInDim S64x1 ![0] bcast_S64_S64x1_0 main_v0
  let main_cst_0 : FVec F S_ .f32 := constant S_ .f32 0xFF800000#32
  let main_v2 : FVec F S64x1 .f32 := broadcastInDim S64x1 ![] bcast_S_S64x1 main_cst_0
  let main_v3 : IVec S64x1 1 := cmpf .ogt main_v1 main_v2
  let main_cst_1 : FVec F S_ .f32 := constant S_ .f32 0x7F800000#32
  let main_v4 : FVec F S64x1 .f32 := broadcastInDim S64x1 ![] bcast_S_S64x1 main_cst_1
  let main_v5 : IVec S64x1 1 := cmpf .olt main_v1 main_v4
  let main_v6 : IVec S64x1 1 := andi main_v3 main_v5
  let main_cst_2 : FVec F S_ .f32 := constant S_ .f32 0x3F800000#32
  let main_v7 : FVec F S64x100000 .f32 := broadcastInDim S64x100000 ![] bcast_S_S64x100000 main_cst_2
  let main_v8 : IVec S64x100000 1 := cmpf .ole main_arg1 main_v7
  let main_v9 : IVec S64x100000 1 := broadcastInDim S64x100000 ![0, 1] bcast_S64x1_S64x100000_0_1 main_v6
  let main_v10 : IVec S64x100000 1 := andi main_v9 main_v8
  main_v10
-- ==== Kernel.lean ====
abbrev S64x100000 : Shape := ⟨2, ![64, 100000]⟩
abbrev S64x1 : Shape := ⟨2, ![64, 1]⟩
abbrev S16x100000 : Shape := ⟨2, ![16, 100000]⟩
abbrev S16x1 : Shape := ⟨2, ![16, 1]⟩
abbrev S16 : Shape := ⟨1, ![16]⟩

abbrev nBuf : Space → Nat
  | .hbm => 4
  | .vmem => 8
  | .smem => 0
  | _ => 0

abbrev bufTy : (tb : Table) → Fin (tcTables nBuf tb) → BufTy
  | .hbm, ⟨0, _⟩ => ⟨S64x100000, .f32⟩
  | .hbm, ⟨1, _⟩ => ⟨S64x100000, .f32⟩
  | .hbm, ⟨2, _⟩ => ⟨S64x100000, .f32⟩
  | .hbm, ⟨3, _⟩ => ⟨S64x1, .i32⟩
  | .local _ .vmem, ⟨0, _⟩ => ⟨S16x100000, .f32⟩
  | .local _ .vmem, ⟨1, _⟩ => ⟨S16x100000, .f32⟩
  | .local _ .vmem, ⟨2, _⟩ => ⟨S16x100000, .f32⟩
  | .local _ .vmem, ⟨3, _⟩ => ⟨S16x100000, .f32⟩
  | .local _ .vmem, ⟨4, _⟩ => ⟨S16x100000, .f32⟩
  | .local _ .vmem, ⟨5, _⟩ => ⟨S16x100000, .f32⟩
  | .local _ .vmem, ⟨6, _⟩ => ⟨S16x1, .i32⟩
  | .local _ .vmem, ⟨7, _⟩ => ⟨S16x1, .i32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x100000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S64x100000 : Shape := ⟨2, ![64, 100000]⟩
abbrev S_ : Shape := ⟨0, ![]⟩
abbrev S64 : Shape := ⟨1, ![64]⟩
abbrev S64x1 : Shape := ⟨2, ![64, 1]⟩

abbrev nBuf : Space → Nat
  | .hbm => 37
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S64x100000, .f32⟩
  | .hbm, ⟨2, _⟩ => ⟨S_, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S64x1, .f32⟩
  | .hbm, ⟨8, _⟩ => ⟨S64x100000, .f32⟩
  | .hbm, ⟨9, _⟩ => ⟨S64x100000, .f32⟩
  | .hbm, ⟨10, _⟩ => ⟨S64x100000, .f32⟩
  | .hbm, ⟨11, _⟩ => ⟨S_, .f32⟩
  | .hbm, ⟨12, _⟩ => ⟨S64, .f32⟩
  | .hbm, ⟨13, _⟩ => ⟨S64x1, .f32⟩
  | .hbm, ⟨14, _⟩ => ⟨S64x100000, .f32⟩
  | .hbm, ⟨15, _⟩ => ⟨S64x100000, .f32⟩
  | .hbm, ⟨16, _⟩ => ⟨S_, .f32⟩
  | .hbm, ⟨17, _⟩ => ⟨S64x100000, .f32⟩
  | .hbm, ⟨18, _⟩ => ⟨S64x100000, .f32⟩
  | .hbm, ⟨19, _⟩ => ⟨S64x100000, .f32⟩
  | .hbm, ⟨20, _⟩ => ⟨S64x100000, .f32⟩
  | .hbm, ⟨21, _⟩ => ⟨S_, .f32⟩
  | .hbm, ⟨22, _⟩ => ⟨S64x100000, .f32⟩
  | .hbm, ⟨23, _⟩ => ⟨S64x100000, .f32⟩
  | .hbm, ⟨24, _⟩ => ⟨S64x100000, .f32⟩
  | .hbm, ⟨25, _⟩ => ⟨S64x100000, .f32⟩
  | .hbm, ⟨26, _⟩ => ⟨S_, .f32⟩
  | .hbm, ⟨27, _⟩ => ⟨S64x100000, .f32⟩
  | .hbm, ⟨28, _⟩ => ⟨S64x100000, .f32⟩
  | .hbm, ⟨29, _⟩ => ⟨S64x100000, .f32⟩
  | .hbm, ⟨30, _⟩ => ⟨S64x100000, .f32⟩
  | .hbm, ⟨31, _⟩ => ⟨S64x100000, .i32⟩
  | .hbm, ⟨32, _⟩ => ⟨S_, .f32⟩
  | .hbm, ⟨33, _⟩ => ⟨S_, .i32⟩
  | .hbm, ⟨34, _⟩ => ⟨S64, .f32⟩
  | .hbm, ⟨35, _⟩ => ⟨S64, .i32⟩
  | .hbm, ⟨36, _⟩ => ⟨S64x1, .i32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_cst : Ref sig .tc := ⟨.hbm, 32, rfl⟩
abbrev main_call0_c : Ref sig .tc := ⟨.hbm, 33, rfl⟩
abbrev main_call0_v1_0 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Proof.ReferenceRun.lean ====
/- The reference's run. Its probabilities and its chosen index are written as functions of the two argument
   arrays, operation by operation; every execution of the reference ends with exactly these in its result
   buffers and with its arguments as they were. -/
module

public import proofs.«01_k».proof.Proof.Gen.ReferenceIdeal
public import Idealize.ShloMosaic.Lib.Claim
public import Idealize.ShloMosaic.Lib.Quiescent

@[expose] public section

noncomputable section

namespace Cert.Proof.Ref

open Cert.ReferenceIdeal Cert.ReferenceIdeal.Gen Idealize.ShloMosaic Idealize.SL.Sem

variable {F : FTy → Type} [FloatOps F]

/-- Each row's greatest logit, along the row. -/
def rowMax (l : FVec F S64x100000 .f32) : FVec F S64x100000 .f32 :=
  broadcastInDim S64x100000 ![0, 1] bcast_S64x1_S64x100000_0_1
    (broadcastInDim S64x1 ![0] bcast_S64_S64x1_0
      (maximumf (broadcastInDim S64 ![] bcast_S_S64 (constant S_ .f32 0xFF800000#32))
        (Host.reduce FloatOps.maximumf l (constant S_ .f32 0xFF800000#32) reducesTo_S64x100000_S64_d1 h_S_)))

/-- The exponentials of the logits, each row's greatest logit taken off first. -/
def expo (l : FVec F S64x100000 .f32) : FVec F S64x100000 .f32 := Host.exp (subf l (rowMax l))

/-- Each row's sum of exponentials, along the row. -/
def rowSum (l : FVec F S64x100000 .f32) : FVec F S64x100000 .f32 :=
  broadcastInDim S64x100000 ![0, 1] bcast_S64x1_S64x100000_0_1
    (broadcastInDim S64x1 ![0] bcast_S64_S64x1_0
      (Host.reduceAdd (expo l) (constant S_ .f32 0x00000000#32) reducesTo_S64x100000_S64_d1 h_S_))

/-- The probabilities: the first result. -/
def probs (l : FVec F S64x100000 .f32) : FVec F S64x100000 .f32 := Host.divf (expo l) (rowSum l)

/-- The small constant both logarithms are kept away from zero by, everywhere. -/
def eps : FVec F S64x100000 .f32 := broadcastInDim S64x100000 ![] bcast_S_S64x100000 (constant S_ .f32 0x2EDBE6FF#32)

/-- The Gumbel term made of the noise. -/
def gumbel (z : FVec F S64x100000 .f32) : FVec F S64x100000 .f32 :=
  Host.negf (Host.log (addf (Host.negf (Host.log (addf z eps))) eps))

/-- The score whose greatest entry is chosen. -/
def score (l z : FVec F S64x100000 .f32) : FVec F S64x100000 .f32 := addf (Host.log (addf (probs l) eps)) (gumbel z)

/-- Each row's chosen index. -/
def choice (l z : FVec F S64x100000 .f32) : IVec S64 32 := fun j =>
  (Host.argReduce reducer_argmax_f32_i32 (score l z) (iotaInDim S64x100000 32 1) (constant S_ .f32 0xFF800000#32)
    (constantI S_ 32 0#32) reducesTo_S64x100000_S64_d1 h_S_ j).2

/-- The chosen indices, unfolded as a whole. -/
theorem choice_eq (l z : FVec F S64x100000 .f32) : choice l z = fun j =>
    (Host.argReduce reducer_argmax_f32_i32 (score l z) (iotaInDim S64x100000 32 1) (constant S_ .f32 0xFF800000#32)
      (constantI S_ 32 0#32) reducesTo_S64x100000_S64_d1 h_S_ j).2 := rfl

/-- The chosen indices as a column: the second result. -/
def index (l z : FVec F S64x100000 .f32) : IVec S64x1 32 := broadcastInDim S64x1 ![0] bcast_S64_S64x1_0 (choice l z)

variable (m : (ℓ : Loc nD τ sig) → Buf (Elt F) ℓ) (ρ : Dev nD → PrngReg)

/-- Every execution of the reference ends with the probabilities and the indices in the result buffers, the
    arguments as launched. -/
theorem run : θ_run (defs (F := F)) (onTc (τ := τ) (main (F := F))) ⟨m, fun _ => 0, ρ⟩ fun r => ∀ c : Dev nD,
      r.2.mem ((c.tc : Thread nD τ).loc main_v10) = probs (m ((c.tc : Thread nD τ).loc main_arg0))
      ∧ r.2.mem ((c.tc : Thread nD τ).loc main_v24)
          = index (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  all_goals rfl

/-- The frame of the reference: it ends with its arguments as launched; it declares no semaphore. -/
theorem frame : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  θ_run_mono (run m ρ) fun r h => ⟨fun c => (h c).2.2, sem_eq_zero_of_no_sems (by decide) r.2⟩

end Cert.Proof.Ref

end
-- ==== Proof.RowExtended.lean ====
/- One row over the extended reals, with no program in sight: what the kernel and the reference each compute from
   a row of logits and a row of noise, and that the two agree when the row's greatest logit is finite and no noise
   exceeds one. The probabilities are equal; the kernel's score is the exponential of the reference's, so both
   order the entries of the row the same way. -/
module

public import Idealize.ShloMosaic.PureOps.Ideal.Laws

@[expose] public section

noncomputable section

namespace Cert.Proof.Row

open Idealize.ShloMosaic

/-! ## The constants -/

/-- The small constant both programs add before a logarithm. -/
def small : EReal := Ideal.ofBits .f32 0x2EDBE6FF#32

/-- The small constant is a positive real number. -/
theorem small_real : ∃ e : ℝ, 0 < e ∧ small = (e : EReal) := by
  refine ⟨_, ?_, by simp [small, Ideal.ofBits, Ideal.ieee]; rfl⟩
  positivity

/-- The pattern of negative infinity. -/
theorem ofBits_bot : Ideal.ofBits .f32 0xFF800000#32 = ⊥ := by simp [Ideal.ofBits, Ideal.ieee]

/-- The pattern of positive infinity. -/
theorem ofBits_top : Ideal.ofBits .f32 0x7F800000#32 = ⊤ := by simp [Ideal.ofBits, Ideal.ieee]

/-- The pattern of one. -/
theorem ofBits_one : Ideal.ofBits .f32 0x3F800000#32 = 1 := by
  simp [Ideal.ofBits, Ideal.ieee]
  rw [← EReal.coe_mul]
  norm_num

/-! ## What each program computes from a row -/

variable {n : Nat}

/-- The greatest entry of a row, negative infinity where there is none. -/
def top (f : Fin n → EReal) : EReal := Finset.univ.fold max ⊥ f

/-- The kernel's probabilities: the exponentials times one over their sum. -/
def probK (f : Fin n → EReal) (k : Fin n) : EReal := Ideal.exp (f k) * Ideal.div 1 (∑ j, Ideal.exp (f j))

/-- The reference's probabilities: the greatest logit is taken off before the exponentials. -/
def probR (f : Fin n → EReal) (k : Fin n) : EReal :=
  Ideal.div (Ideal.exp (f k - max ⊥ (top f))) (0 + ∑ j, Ideal.exp (f j - max ⊥ (top f)))

/-- The kernel's score of a probability and a noise. -/
def scoreK (p z : EReal) : EReal := Ideal.div (p + small) (0 - Ideal.log (z + small) + small)

/-- The reference's score of a probability and a noise. -/
def scoreR (p z : EReal) : EReal := Ideal.log (p + small) + -Ideal.log (-Ideal.log (z + small) + small)

/-! ## The greatest entry -/

/-- Every entry is at most the greatest one. -/
theorem le_top (f : Fin n → EReal) (k : Fin n) : f k ≤ top f :=
  Finset.le_sup (f := f) (Finset.mem_univ k)

/-- The greatest entry, if it is not negative infinity, is an entry. -/
theorem exists_eq_top (f : Fin n → EReal) (h : ⊥ < top f) : ∃ k, f k = top f := by
  have hn : (Finset.univ : Finset (Fin n)).Nonempty := by
    by_contra hne
    rw [Finset.not_nonempty_iff_eq_empty] at hne
    exact absurd h (by simp [top, hne])
  obtain ⟨k, -, hk⟩ := Finset.exists_mem_eq_sup Finset.univ hn f
  exact ⟨k, hk.symm⟩

/-- A row that has an entry has its greatest entry. -/
theorem exists_eq_top' (f : Fin n → EReal) (i : Fin n) : ∃ k, f k = top f := by
  obtain ⟨k, -, hk⟩ := Finset.exists_mem_eq_sup Finset.univ ⟨i, Finset.mem_univ i⟩ f
  exact ⟨k, hk.symm⟩

/-! ## The exponential -/

/-- The exponential keeps the strict order, infinities included. -/
theorem exp_strictMono : StrictMono Ideal.exp := by
  intro a b h
  induction a using EReal.rec with
  | top => exact absurd h not_top_lt
  | bot =>
    induction b using EReal.rec with
    | bot => exact absurd h (lt_irrefl _)
    | top => simp
    | coe y => simpa using Real.exp_pos y
  | coe x =>
    induction b using EReal.rec with
    | bot => exact absurd h not_lt_bot
    | top => simp
    | coe y => simpa using h

/-- Below positive infinity the exponential is a real number at least zero. -/
theorem exp_real {x : EReal} (h : x ≠ ⊤) : ∃ r : ℝ, 0 ≤ r ∧ Ideal.exp x = (r : EReal) := by
  induction x using EReal.rec with
  | top => exact absurd rfl h
  | bot => exact ⟨0, le_rfl, by simp⟩
  | coe y => exact ⟨Real.exp y, (Real.exp_pos y).le, rfl⟩

/-- Taking a real number off first divides the exponential by the exponential of that number. -/
theorem exp_sub_real {x : EReal} {r : ℝ} (μ : ℝ) (h : Ideal.exp x = (r : EReal)) :
    Ideal.exp (x - (μ : EReal)) = ((r * Real.exp (-μ) : ℝ) : EReal) := by
  induction x using EReal.rec with
  | top => simp at h
  | bot =>
    have : r = 0 := by simpa using h.symm
    simp [this]
  | coe y =>
    have : r = Real.exp y := by simpa using h.symm
    rw [← EReal.coe_sub, Ideal.exp_coe, this, ← Real.exp_add, sub_eq_add_neg]

/-- A finite sum of real numbers, taken in the extended reals, is their real sum. -/
theorem coe_sum_real (g : Fin n → ℝ) : (∑ j, (g j : EReal)) = ((∑ j, g j : ℝ) : EReal) := by
  classical
  induction (Finset.univ : Finset (Fin n)) using Finset.induction_on with
  | empty => simp
  | insert a s ha ih => rw [Finset.sum_insert ha, Finset.sum_insert ha, ih, EReal.coe_add]

/-! ## The probabilities -/

/-- With the greatest logit finite, both probabilities are one real number, at least zero. -/
theorem prob_real (f : Fin n → EReal) (hb : ⊥ < top f) (ht : top f < ⊤) (k : Fin n) :
    ∃ p : ℝ, 0 ≤ p ∧ probK f k = (p : EReal) ∧ probR f k = (p : EReal) := by
  obtain ⟨μ, hμ⟩ : ∃ μ : ℝ, top f = (μ : EReal) := ⟨(top f).toReal, (EReal.coe_toReal ht.ne hb.ne').symm⟩
  have hne : ∀ j, f j ≠ ⊤ := fun j h => absurd (h ▸ le_top f j) (not_le.2 ht)
  choose e he0 he using fun j => exp_real (hne j)
  obtain ⟨i, hi⟩ := exists_eq_top f hb
  have hpos : 0 < e i := by
    have h := he i
    rw [hi, hμ, Ideal.exp_coe, EReal.coe_eq_coe_iff] at h
    exact h ▸ Real.exp_pos μ
  have hS : 0 < ∑ j, e j := Finset.sum_pos' (fun j _ => he0 j) ⟨i, Finset.mem_univ i, hpos⟩
  have hc := Real.exp_pos (-μ)
  refine ⟨e k * (1 / ∑ j, e j), by have := he0 k; positivity, ?_, ?_⟩
  · unfold probK
    simp only [he]
    rw [coe_sum_real, Ideal.div_coe hS.ne', one_mul, ← EReal.coe_mul]
  · unfold probR
    rw [hμ, max_eq_right bot_le]
    simp only [fun j => exp_sub_real μ (he j)]
    rw [zero_add, coe_sum_real, ← Finset.sum_mul, Ideal.div_coe (mul_pos hS hc).ne', ← EReal.coe_mul]
    congr 1
    field_simp

/-- With the greatest logit finite, the kernel's probabilities are the reference's. -/
theorem prob_eq (f : Fin n → EReal) (hb : ⊥ < top f) (ht : top f < ⊤) (k : Fin n) : probK f k = probR f k := by
  obtain ⟨p, -, h1, h2⟩ := prob_real f hb ht k
  rw [h1, h2]

/-! ## The scores -/

/-- For noise at most one the kernel's divisor is positive infinity or a positive real number. -/
theorem divisor (z : EReal) (hz : z ≤ 1) :
    -Ideal.log (z + small) + small = ⊤ ∨ ∃ b : ℝ, 0 < b ∧ -Ideal.log (z + small) + small = (b : EReal) := by
  obtain ⟨e, he, hs⟩ := small_real
  rw [hs]
  induction z using EReal.rec with
  | bot => left; simp
  | top => exact absurd hz (not_le.2 (EReal.coe_lt_top 1))
  | coe r =>
    have hr : r ≤ 1 := by exact_mod_cast hz
    rw [← EReal.coe_add, Ideal.log_coe]
    split_ifs with h
    · left; simp
    · right
      have hx : 0 < r + e := not_le.1 h
      have h1 : Real.log (r + e) ≤ Real.log (1 + e) := Real.log_le_log hx (by linarith)
      have h2 : Real.log (1 + e) < 1 + e - 1 := Real.log_lt_sub_one_of_pos (by linarith) (by linarith)
      refine ⟨-Real.log (r + e) + e, by linarith, ?_⟩
      rw [← EReal.coe_neg, ← EReal.coe_add]

/-- For a probability at least zero and noise at most one, the kernel's score is the exponential of the reference's. -/
theorem score_eq (p : ℝ) (hp : 0 ≤ p) (z : EReal) (hz : z ≤ 1) :
    scoreK (p : EReal) z = Ideal.exp (scoreR (p : EReal) z) := by
  obtain ⟨e, he, hs⟩ := small_real
  have hP : 0 < p + e := by linarith
  have hd := divisor z hz
  unfold scoreK scoreR
  rw [zero_sub]
  rcases hd with h | ⟨b, hb, h⟩
  · rw [h, hs, ← EReal.coe_add, Ideal.log_coe, if_neg (not_le.2 hP)]
    simp [Ideal.div]
  · rw [h, hs, ← EReal.coe_add, Ideal.log_coe, Ideal.log_coe, if_neg (not_le.2 hP), if_neg (not_le.2 hb),
      ← EReal.coe_neg, ← EReal.coe_add, Ideal.exp_coe, Ideal.div_coe hb.ne', ← EReal.coe_mul, Real.exp_add,
      Real.exp_log hP, Real.exp_neg, Real.exp_log hb, one_div]

end Cert.Proof.Row

end
-- ==== Proof.FirstIndex.lean ====
/- The first index of a row's greatest entry, and the two ways the programs find it: the kernel takes the smallest
   of the indices whose entry is the greatest, the reference keeps the better of two (entry, index) pairs, entry
   after entry. -/
module

public import Idealize.ShloMosaic.PureOps.Ideal.Laws

@[expose] public section

noncomputable section

namespace Cert.Proof.Row

open Idealize.ShloMosaic

variable {n : Nat}

/-- `k` is the first index of the greatest entry of `s`. -/
def IsFirst (s : Fin n → EReal) (k : Fin n) : Prop := (∀ j, s j ≤ s k) ∧ ∀ j, s j = s k → k ≤ j

/-- A row that has an entry has a first index of its greatest entry. -/
theorem exists_isFirst (s : Fin n → EReal) (i : Fin n) : ∃ k, IsFirst s k := by
  classical
  obtain ⟨m, -, hm⟩ := Finset.exists_max_image Finset.univ s ⟨i, Finset.mem_univ i⟩
  obtain ⟨k, hk, hmin⟩ := Finset.exists_min_image (Finset.univ.filter fun j => s j = s m) id ⟨m, by simp⟩
  have hkm : s k = s m := (Finset.mem_filter.1 hk).2
  refine ⟨k, fun j => hkm ▸ hm j (Finset.mem_univ j), fun j hj => hmin j ?_⟩
  simp [hj, hkm]

/-- The first index of the greatest entry of a row of 100000. -/
def first (s : Fin 100000 → EReal) : Fin 100000 := (exists_isFirst s ⟨0, by omega⟩).choose

/-- It is one. -/
theorem isFirst_first (s : Fin 100000 → EReal) : IsFirst s (first s) := (exists_isFirst s ⟨0, by omega⟩).choose_spec

/-- The first index of the greatest entry stays when a strictly increasing map is applied to the row. -/
theorem IsFirst.of_comp {g : EReal → EReal} (hg : StrictMono g) {s : Fin n → EReal} {k : Fin n}
    (h : IsFirst (fun j => g (s j)) k) : IsFirst s k :=
  ⟨fun j => hg.le_iff_le.1 (h.1 j), fun j hj => h.2 j (congrArg g hj)⟩

/-- A small index, as a signed 32-bit word, reads as itself. -/
theorem toInt_index {k : Nat} (h : k < 2147483648) : (BitVec.ofNat 32 k).toInt = (k : Int) := by
  rw [BitVec.toInt_eq_toNat_of_lt] <;> rw [BitVec.toNat_ofNat, Nat.mod_eq_of_lt] <;> omega

/-! ## The kernel's way -/

/-- A fold by the smaller of two words gives the start or one of the words. -/
theorem fold_min_mem (b : BitVec 32) (g : Fin n → BitVec 32) (S : Finset (Fin n)) :
    S.fold IntOp.minsi b g = b ∨ ∃ j ∈ S, S.fold IntOp.minsi b g = g j := by
  classical
  induction S using Finset.induction_on with
  | empty => left; rfl
  | insert a S ha ih =>
    rw [Finset.fold_insert ha]
    have h : ∀ y, IntOp.minsi (g a) y = g a ∨ IntOp.minsi (g a) y = y := fun y => by
      unfold IntOp.minsi; split <;> simp
    rcases h (S.fold IntOp.minsi b g) with h | h
    · exact .inr ⟨a, Finset.mem_insert_self a S, h⟩
    · rw [h]
      exact ih.imp id fun ⟨j, hj, e⟩ => ⟨j, Finset.mem_insert_of_mem hj, e⟩

/-- A fold by the smaller of two words is at most each of the words. -/
theorem fold_min_le (b : BitVec 32) (g : Fin n → BitVec 32) (S : Finset (Fin n)) :
    ∀ j ∈ S, (S.fold IntOp.minsi b g).toInt ≤ (g j).toInt := by
  classical
  induction S using Finset.induction_on with
  | empty => intro j hj; simp at hj
  | insert a S ha ih =>
    intro j hj
    rw [Finset.fold_insert ha]
    have h : ∀ y, (IntOp.minsi (g a) y).toInt ≤ (g a).toInt ∧ (IntOp.minsi (g a) y).toInt ≤ y.toInt := fun y => by
      unfold IntOp.minsi
      by_cases hc : (g a).slt y = true
      · rw [if_pos hc]
        rw [BitVec.slt_eq_decide, decide_eq_true_eq] at hc
        omega
      · rw [if_neg hc]
        rw [BitVec.slt_eq_decide, decide_eq_true_eq] at hc
        omega
    rcases Finset.mem_insert.1 hj with rfl | hj
    · exact (h _).1
    · exact (h _).2.trans (ih j hj)

/-- The smallest of the indices `k` marks by `p`, the others replaced by a word `c` above every index. -/
theorem fold_min_eq {c : BitVec 32} (hc : (n : Int) ≤ c.toInt) (hn : n ≤ 100000) (p : Fin n → Prop) [DecidablePred p]
    (k : Fin n) (hk : p k) (hmin : ∀ j, p j → k ≤ j) :
    (Finset.univ : Finset (Fin n)).fold IntOp.minsi 2147483647#32 (fun j => if p j then BitVec.ofNat 32 j.val else c)
      = BitVec.ofNat 32 k.val := by
  have hle := fold_min_le 2147483647#32 (fun j => if p j then BitVec.ofNat 32 j.val else c) Finset.univ k
    (Finset.mem_univ k)
  have hkn := k.isLt
  rw [if_pos hk, toInt_index (by omega)] at hle
  rcases fold_min_mem 2147483647#32 (fun j => if p j then BitVec.ofNat 32 j.val else c) Finset.univ with h | ⟨j, -, h⟩
  · rw [h, show (2147483647#32).toInt = 2147483647 from rfl] at hle
    omega
  · rw [h] at hle ⊢
    have hjn := j.isLt
    split_ifs at hle ⊢ with hj
    · rw [toInt_index (by omega)] at hle
      have := hmin j hj
      have : j = k := le_antisymm (by rw [Fin.le_def]; omega) this
      rw [this]
    · omega

/-! ## The reference's way -/

/-- A pair is at least as good as another: a greater entry, or the same entry at no later an index. -/
def AtLeast (r q : EReal × BitVec 32) : Prop := q.1 < r.1 ∨ (q.1 = r.1 ∧ r.2.toInt ≤ q.2.toInt)

/-- Every pair is at least as good as itself. -/
theorem AtLeast.refl (r : EReal × BitVec 32) : AtLeast r r := .inr ⟨rfl, le_rfl⟩

/-- At least as good passes on. -/
theorem AtLeast.trans {r q p : EReal × BitVec 32} (h : AtLeast r q) (h' : AtLeast q p) : AtLeast r p := by
  rcases h with h | ⟨h, g⟩ <;> rcases h' with h' | ⟨h', g'⟩
  · exact .inl (h'.trans h)
  · exact .inl (h' ▸ h)
  · exact .inl (h ▸ h')
  · exact .inr ⟨h'.trans h, g.trans g'⟩

/-- `f` keeps the better of two pairs. -/
def Keeps (f : EReal × BitVec 32 → EReal × BitVec 32 → EReal × BitVec 32) : Prop :=
  ∀ a b, (f a b = a ∨ f a b = b) ∧ AtLeast (f a b) a ∧ AtLeast (f a b) b

/-- A fold that keeps the better of two pairs ends at one of the pairs, at least as good as all of them. -/
theorem foldl_keeps {f : EReal × BitVec 32 → EReal × BitVec 32 → EReal × BitVec 32} (hf : Keeps f)
    (L : List (EReal × BitVec 32)) : ∀ b, L.foldl f b ∈ b :: L ∧ ∀ q ∈ b :: L, AtLeast (L.foldl f b) q := by
  induction L with
  | nil => intro b; simpa using AtLeast.refl b
  | cons a L ih =>
    intro b
    obtain ⟨hm, hl⟩ := ih (f b a)
    obtain ⟨he, hb, ha⟩ := hf b a
    rw [List.foldl_cons]
    have hfb := hl (f b a) List.mem_cons_self
    refine ⟨?_, fun q hq => ?_⟩
    · rcases List.mem_cons.1 hm with h | h
      · rw [h]
        rcases he with e | e <;> rw [e] <;> simp
      · simp [h]
    · rcases List.mem_cons.1 hq with rfl | hq
      · exact hfb.trans hb
      · rcases List.mem_cons.1 hq with rfl | hq
        · exact hfb.trans ha
        · exact hl q (List.mem_cons_of_mem _ hq)

/-- A fold that keeps the better of two pairs, over the entries of a row with their indices in whatever order and
    from negative infinity at index zero, ends at the first index of the greatest entry. -/
theorem foldl_index {f : EReal × BitVec 32 → EReal × BitVec 32 → EReal × BitVec 32} (hf : Keeps f) (hn : n ≤ 100000)
    (s : Fin n → EReal) (k : Fin n) (hk : IsFirst s k) (L : List (EReal × BitVec 32))
    (hL : ∀ q, q ∈ L ↔ ∃ j : Fin n, q = (s j, BitVec.ofNat 32 j.val)) :
    (L.foldl f (⊥, 0#32)).2 = BitVec.ofNat 32 k.val := by
  obtain ⟨hm, hl⟩ := foldl_keeps hf L (⊥, 0#32)
  have hkL : (s k, BitVec.ofNat 32 k.val) ∈ L := (hL _).2 ⟨k, rfl⟩
  have hbest := hl _ (List.mem_cons_of_mem _ hkL)
  have hkn := k.isLt
  rcases List.mem_cons.1 hm with h | h
  · rw [h] at hbest ⊢
    rcases hbest with hb | ⟨hb, -⟩
    · exact absurd hb not_lt_bot
    · dsimp only at hb ⊢
      have h0 : s ⟨0, by omega⟩ = s k := le_antisymm (hk.1 _) (hb ▸ bot_le)
      have hk0 : k.val = 0 := Nat.le_zero.1 (hk.2 _ h0)
      rw [hk0]
  · obtain ⟨j, hj⟩ := (hL _).1 h
    have hjn := j.isLt
    rw [hj] at hbest ⊢
    rcases hbest with hb | ⟨hb, hi⟩
    · exact absurd hb (not_lt.2 (hk.1 j))
    · dsimp only at hb hi ⊢
      rw [toInt_index (by omega), toInt_index (by omega)] at hi
      have h1 := hk.2 j hb.symm
      have : j = k := le_antisymm (by rw [Fin.le_def]; omega) h1
      rw [this]

end Cert.Proof.Row

end
-- ==== Proof.ReadRows.lean ====
/- Readings of the row operations of both programs at an index, for arrays of any two sizes: a column spread along
   its rows, and the reductions along a row. -/
module

public import proofs.«01_k».proof.Proof.RowExtended
public import proofs.«01_k».proof.Proof.FirstIndex
public import Idealize.ShloMosaic.Lib.Pointwise.Reduce
public import Idealize.ShloMosaic.Lib.Pointwise.ShapeOps
public import Idealize.ShloMosaic.Lib.Pipeline.Value

@[expose] public section

noncomputable section

namespace Cert.Proof.Read

open Idealize.ShloMosaic

variable {n0 n1 : Nat} {α : Type}

/-- Row `r` of an array. -/
def row (x : (⟨2, ![n0, n1]⟩ : Shape).Idx → α) (r : Fin n0) : Fin n1 → α := fun k => x (ix2 r k)

/-! ## Spreading a column -/

/-- On the host a vector stood up as a column holds its entry in every row. -/
theorem host_column (h : (⟨1, ![n0]⟩ : Shape).BroadcastsInDim ⟨2, ![n0, n1]⟩ ![0]) (x : (⟨1, ![n0]⟩ : Shape).Idx → α)
    (r : Fin n0) (k : Fin n1) : broadcastInDim ⟨2, ![n0, n1]⟩ ![0] h x (ix2 r k) = x (ix1 r) :=
  broadcastInDim_apply _ h x _ _ fun a => by
    match a with
    | ⟨0, _⟩ =>
      show r.val = if n0 = 1 then 0 else r.val
      have := r.isLt
      split_ifs <;> omega

/-- On the host a column spread along the rows holds the row's entry. -/
theorem host_spread (h : (⟨2, ![n0, 1]⟩ : Shape).BroadcastsInDim ⟨2, ![n0, n1]⟩ ![0, 1])
    (x : (⟨2, ![n0, 1]⟩ : Shape).Idx → α) (r : Fin n0) (k : Fin n1) :
    broadcastInDim ⟨2, ![n0, n1]⟩ ![0, 1] h x (ix2 r k) = x (ix2 r 0) :=
  broadcastInDim_apply _ h x _ _ fun a => by
    match a with
    | ⟨0, _⟩ =>
      show r.val = if n0 = 1 then 0 else r.val
      have := r.isLt
      split_ifs <;> omega
    | ⟨1, _⟩ =>
      show 0 = if 1 = 1 then 0 else k.val
      simp

/-- In the kernel a vector recast as a column holds its entry in every row. -/
theorem column (h : (⟨1, ![n0]⟩ : Shape).ShapeCasts ⟨2, ![n0, 1]⟩) (x : (⟨1, ![n0]⟩ : Shape).Idx → α) (r : Fin n0)
    (c : Fin 1) : shapeCast ⟨2, ![n0, 1]⟩ x h (ix2 r c) = x (ix1 r) :=
  shapeCast_apply x h _ _ (by
    rw [Shape.rowMajor_val_one, Shape.rowMajor_val_two]
    show r.val = r.val * 1 + c.val
    have := c.isLt
    omega)

/-- In the kernel a column spread along the rows holds the row's entry. -/
theorem spread (h : (⟨2, ![n0, 1]⟩ : Shape).Broadcasts ⟨2, ![n0, n1]⟩) (x : (⟨2, ![n0, 1]⟩ : Shape).Idx → α)
    (r : Fin n0) (k : Fin n1) : broadcastTo ⟨2, ![n0, n1]⟩ x h (ix2 r k) = x (ix2 r 0) :=
  broadcastTo_apply x h _ _ fun a => by
    match a with
    | ⟨0, _⟩ =>
      show r.val = if n0 = 1 then 0 else r.val
      have := r.isLt
      split_ifs <;> omega
    | ⟨1, _⟩ =>
      show 0 = if 1 = 1 then 0 else k.val
      simp

/-! ## Reducing the rows -/

/-- The host's row maximum. -/
theorem host_max (h : (⟨2, ![n0, n1]⟩ : Shape).ReducesTo [1] ⟨1, ![n0]⟩) {u : Shape} (hu : 0 < u.numel)
    (x : FVec Ideal ⟨2, ![n0, n1]⟩ .f32) (i : u.Idx → Ideal .f32) (hi : i (Shape.Idx.first hu) = (⊥ : EReal))
    (r : Fin n0) : Host.reduce FloatOps.maximumf x i h hu (ix1 r) = Row.top (row x r) := by
  rw [Host.reduce_eq_fold, Shape.ReducesTo.fold_fiber_r2_a1, hi]
  rfl

/-- The host's row sum. -/
theorem host_sum (h : (⟨2, ![n0, n1]⟩ : Shape).ReducesTo [1] ⟨1, ![n0]⟩) (x : (⟨2, ![n0, n1]⟩ : Shape).Idx → EReal)
    (i : EReal) (r : Fin n0) : Ideal.hostReduceAdd h x i (ix1 r) = i + ∑ k, row x r k := by
  rw [Ideal.hostReduceAdd_r2_a1]
  rfl

/-- The kernel's row sum. -/
theorem sum (h : (⟨2, ![n0, n1]⟩ : Shape).Reduces [1] ⟨1, ![n0]⟩) (x : FVec Ideal ⟨2, ![n0, n1]⟩ .f32)
    (hφ : FKind.Formats .f32) (hacc : 0x00000000#32 = FKind.add.neutral .f32 hφ) (r : Fin n0) :
    multiReduction .add [1] ⟨1, ![n0]⟩ x 0x00000000#32 h hφ hacc (ix1 r) = ∑ k, row x r k :=
  h.sum_fiber_r2_a1 (ix1 r) x

/-- The kernel's row maximum. -/
theorem max (h : (⟨2, ![n0, n1]⟩ : Shape).Reduces [1] ⟨1, ![n0]⟩) (x : FVec Ideal ⟨2, ![n0, n1]⟩ .f32)
    (hφ : FKind.Formats .f32) (hacc : 0xFF800000#32 = FKind.maximumf.neutral .f32 hφ) (r : Fin n0) :
    multiReduction .maximumf [1] ⟨1, ![n0]⟩ x 0xFF800000#32 h hφ hacc (ix1 r) = Row.top (row x r) := by
  rw [multiReduction_maximumf_eq_fold, Shape.Reduces.fold_fiber_r2_a1]
  show Finset.univ.fold Max.max (Ideal.ofBits .f32 0xFF800000#32) _ = _
  rw [Row.ofBits_bot]
  rfl

/-- The kernel's smallest word of a row. -/
theorem min (h : (⟨2, ![n0, n1]⟩ : Shape).Reduces [1] ⟨1, ![n0]⟩) (x : IVec ⟨2, ![n0, n1]⟩ 32)
    (hacc : 2147483647#32 = IKind.minsi.neutral) (r : Fin n0) :
    multiReductionI .minsi [1] ⟨1, ![n0]⟩ x 2147483647#32 h hacc (ix1 r)
      = Finset.univ.fold IntOp.minsi 2147483647#32 (row x r) := by
  rw [multiReductionI_eq_fold, Shape.Reduces.fold_fiber_r2_a1]
  rfl

/-- The kernel's marking of a row: an entry's index along the row where two arrays agree, another word elsewhere. -/
theorem mark (h : (⟨2, ![n0, n1]⟩ : Shape).Iotas .tc 32 [1]) (x y : FVec Ideal ⟨2, ![n0, n1]⟩ .f32) (c : BitVec 32)
    (r : Fin n0) (k : Fin n1) [d : Decidable ((x (ix2 r k) : EReal) = y (ix2 r k))] :
    select (cmpf .oeq x y) (iota .tc ⟨2, ![n0, n1]⟩ 32 [1] h) (broadcast ⟨2, ![n0, n1]⟩ c) (ix2 r k)
      = if (x (ix2 r k) : EReal) = y (ix2 r k) then BitVec.ofNat 32 k.val else c := by
  have hi : iota .tc ⟨2, ![n0, n1]⟩ 32 [1] h (ix2 r k) = BitVec.ofNat 32 k.val := by
    show BitVec.ofNat 32 (0 * n1 + k.val) = _
    rw [Nat.zero_mul, Nat.zero_add]
  show Scalar.select (Ideal.cmp .oeq (x (ix2 r k)) (y (ix2 r k))) (iota .tc ⟨2, ![n0, n1]⟩ 32 [1] h (ix2 r k)) c = _
  rw [hi]
  unfold Scalar.select Ideal.cmp
  by_cases e : (x (ix2 r k) : EReal) = y (ix2 r k) <;> simp [e]

/-- The host's index of a row's greatest entry. -/
theorem host_index (hn : n1 ≤ 100000) (h : (⟨2, ![n0, n1]⟩ : Shape).ReducesTo [1] ⟨1, ![n0]⟩) {u : Shape}
    (hu : 0 < u.numel) {f : EReal × BitVec 32 → EReal × BitVec 32 → EReal × BitVec 32} (hf : Row.Keeps f)
    (x : FVec Ideal ⟨2, ![n0, n1]⟩ .f32) (i : u.Idx → Ideal .f32) (hi : i (Shape.Idx.first hu) = (⊥ : EReal))
    (i' : u.Idx → BitVec 32) (hi' : i' (Shape.Idx.first hu) = 0#32) (r : Fin n0) (k : Fin n1)
    (hk : Row.IsFirst (row x r) k) :
    (Host.argReduce (F := Ideal) (φ := .f32) f x (iotaInDim ⟨2, ![n0, n1]⟩ 32 1) i i' h hu (ix1 r)).2
      = BitVec.ofNat 32 k.val := by
  rw [Ideal.argReduce_eq_reduce2, Host.reduce2_eq_foldl_fiber, hi, hi']
  refine Row.foldl_index hf hn _ k hk _ fun q => ?_
  unfold Host.argReduceFiber
  rw [List.mem_map]
  constructor
  · rintro ⟨m, hm, rfl⟩
    obtain ⟨j, hj⟩ := (h.fiber_r2_a1 _ _).1 (of_decide_eq_true (List.mem_filter.1 hm).2)
    refine ⟨j, ?_⟩
    rw [← hj]
    rfl
  · rintro ⟨j, rfl⟩
    refine ⟨(⟨2, ![n0, n1]⟩ : Shape).rowMajor (ix2 r j), ?_, ?_⟩
    · refine List.mem_filter.2 ⟨List.mem_finRange _, decide_eq_true ?_⟩
      rw [Equiv.symm_apply_apply]
      exact (h.fiber_r2_a1 _ _).2 ⟨j, rfl⟩
    · rw [Equiv.symm_apply_apply]
      rfl

end Cert.Proof.Read

end
-- ==== Proof.ReadEntries.lean ====
/- Readings of the entrywise operations of both programs at an index, ideally. -/
module

public import Idealize.ShloMosaic.PureOps.Ideal.Laws

@[expose] public section

noncomputable section

namespace Cert.Proof.Read

open Idealize.ShloMosaic

variable {s : Shape} (x y : FVec Ideal s .f32) (i : s.Idx)

/-- Sums, entry by entry. -/
theorem add_at : addf x y i = (x i + y i : EReal) := rfl
/-- Differences, entry by entry. -/
theorem sub_at : subf x y i = (x i - y i : EReal) := rfl
/-- Products, entry by entry. -/
theorem mul_at : mulf x y i = (x i * y i : EReal) := rfl
/-- The kernel's quotients, entry by entry. -/
theorem div_at : divf x y i = Ideal.div (x i) (y i) := rfl
/-- The kernel's exponentials, entry by entry. -/
theorem exp_at : exp x i = Ideal.exp (x i) := rfl
/-- The kernel's logarithms, entry by entry. -/
theorem log_at : log x i = Ideal.log (x i) := rfl
/-- Greater of two, entry by entry. -/
theorem max_at : maximumf x y i = (Max.max (x i) (y i) : EReal) := rfl
/-- The host's quotients, entry by entry. -/
theorem host_div_at : Host.divf x y i = Ideal.div (x i) (y i) := rfl
/-- The host's exponentials, entry by entry. -/
theorem host_exp_at : Host.exp x i = Ideal.exp (x i) := rfl
/-- The host's logarithms, entry by entry. -/
theorem host_log_at : Host.log x i = Ideal.log (x i) := rfl
/-- The host's negations, entry by entry. -/
theorem host_neg_at : Host.negf x i = (-(x i) : EReal) := rfl
/-- A constant spread by the host, entry by entry. -/
theorem host_const_at (b : BitVec 32) (h : (⟨0, ![]⟩ : Shape).BroadcastsInDim s ![]) :
    broadcastInDim s ![] h (constant (F := Ideal) ⟨0, ![]⟩ .f32 b) i = Ideal.ofBits .f32 b := rfl
/-- A constant spread by the kernel, entry by entry. -/
theorem const_at (b : BitVec 32) : broadcast s (Scalar.ofBits (F := Ideal) .f32 b) i = Ideal.ofBits .f32 b := rfl
/-- The host's summing reduction is the ideal one from the value of its start. -/
theorem host_sum_at {t u : Shape} {axes : List (Fin s.rank)} (h : s.ReducesTo axes t) (hu : 0 < u.numel)
    (b : BitVec 32) (j : t.Idx) :
    Host.reduceAdd x (constant u .f32 b) h hu j = Ideal.hostReduceAdd h x (Ideal.ofBits .f32 b) j := rfl

end Cert.Proof.Read

end
-- ==== Proof.Domain.lean ====
/- What the precondition says of the arguments: every row of logits has a finite greatest entry, and no noise exceeds
   one. -/
module

public import proofs.«01_k».proof.Pre_finite_maxima_noise_below_one
public import proofs.«01_k».proof.Proof.ReadRows
public import proofs.«01_k».proof.Proof.ReadEntries

@[expose] public section

noncomputable section

namespace Cert.Proof.Domain

open Idealize.ShloMosaic

/-- The shape relations of the precondition's operations. -/
theorem facts : Cert.Pre_finite_maxima_noise_below_one.Facts where
  reducesTo_S64x100000_S64_d1 := by decide
  h_S_ := by decide
  bcast_S64_S64x1_0 := by decide
  bcast_S_S64x1 := by decide
  bcast_S_S64x100000 := by decide
  bcast_S64x1_S64x100000_0_1 := by decide

/-- A bit made of a truth value is one exactly when it is true. -/
theorem ofBool_eq_one {b : Bool} (h : BitVec.ofBool b = 1#1) : b = true := by
  cases b
  · exact absurd h (by decide)
  · rfl

/-- A conjunction of two bits is one only when both are. -/
theorem and_eq_one {a b : BitVec 1} (h : IntOp.andi a b = 1#1) : a = 1#1 ∧ b = 1#1 := by
  revert a b
  decide

variable {n0 n1 : Nat}

/-- One entry of the check, at sizes left open. -/
theorem entry (hb : (⟨2, ![n0, 1]⟩ : Shape).BroadcastsInDim ⟨2, ![n0, n1]⟩ ![0, 1])
    (hc : (⟨1, ![n0]⟩ : Shape).BroadcastsInDim ⟨2, ![n0, 1]⟩ ![0])
    {u : Shape} (d : Fin u.rank → Fin 2) (hs : u.BroadcastsInDim ⟨2, ![n0, 1]⟩ d)
    (hw : u.BroadcastsInDim ⟨2, ![n0, n1]⟩ d)
    (t : (⟨1, ![n0]⟩ : Shape).Idx → Ideal .f32) (z : FVec Ideal ⟨2, ![n0, n1]⟩ .f32) (r : Fin n0) (k : Fin n1)
    (h : andi (broadcastInDim ⟨2, ![n0, n1]⟩ ![0, 1] hb
        (andi (cmpf (F := Ideal) (φ := .f32) .ogt (broadcastInDim ⟨2, ![n0, 1]⟩ ![0] hc t)
            (broadcastInDim ⟨2, ![n0, 1]⟩ d hs (constant (F := Ideal) u .f32 0xFF800000#32)))
          (cmpf (F := Ideal) (φ := .f32) .olt (broadcastInDim ⟨2, ![n0, 1]⟩ ![0] hc t)
            (broadcastInDim ⟨2, ![n0, 1]⟩ d hs (constant (F := Ideal) u .f32 0x7F800000#32)))))
      (cmpf (F := Ideal) (φ := .f32) .ole z
        (broadcastInDim ⟨2, ![n0, n1]⟩ d hw (constant (F := Ideal) u .f32 0x3F800000#32))) (ix2 r k) = 1#1) :
    (⊥ : EReal) < t (ix1 r) ∧ t (ix1 r) < (⊤ : EReal) ∧ z (ix2 r k) ≤ (1 : EReal) := by
  obtain ⟨h1, h2⟩ := and_eq_one h
  rw [Read.host_spread] at h1
  obtain ⟨h3, h4⟩ := and_eq_one h1
  have e3 : BitVec.ofBool (decide (Ideal.ofBits .f32 0xFF800000#32 <
      broadcastInDim ⟨2, ![n0, 1]⟩ ![0] hc t (ix2 r 0))) = 1#1 := h3
  have e4 : BitVec.ofBool (decide (broadcastInDim ⟨2, ![n0, 1]⟩ ![0] hc t (ix2 r 0) <
      Ideal.ofBits .f32 0x7F800000#32)) = 1#1 := h4
  have e2 : BitVec.ofBool (decide ((z (ix2 r k) : EReal) ≤ Ideal.ofBits .f32 0x3F800000#32)) = 1#1 := h2
  rw [Read.host_column, Row.ofBits_bot] at e3
  rw [Read.host_column, Row.ofBits_top] at e4
  rw [Row.ofBits_one] at e2
  exact ⟨of_decide_eq_true (ofBool_eq_one e3), of_decide_eq_true (ofBool_eq_one e4),
    of_decide_eq_true (ofBool_eq_one e2)⟩

open Cert.Pre_finite_maxima_noise_below_one in
/-- What the check being true everywhere says. -/
theorem rows [Facts] (l z : FVec Ideal S64x100000 .f32) (h : fn (F := Ideal) l z = fun _ => 1#1) (r : Fin 64)
    (k : Fin 100000) :
    ⊥ < Row.top (Read.row l r) ∧ Row.top (Read.row l r) < ⊤ ∧ Read.row z r k ≤ 1 := by
  have h' := congrFun h (ix2 r k)
  unfold fn at h'
  have h'' := entry _ _ _ _ _ _ z r k h'
  dsimp only at h''
  rw [Read.host_max (hi := Row.ofBits_bot)] at h''
  exact h''

end Cert.Proof.Domain

end
-- ==== Proof.BlockRows.lean ====
/- What one block of the kernel computes, row by row: its probabilities, and the index it chooses. -/
module

public import proofs.«01_k».proof.Proof.Gen.KernelIdeal.Skeleton
public import proofs.«01_k».proof.Proof.ReadRows
public import proofs.«01_k».proof.Proof.ReadEntries

@[expose] public section

noncomputable section

namespace Cert.Proof.Block

open Cert.KernelIdeal Cert.KernelIdeal.Gen Idealize.ShloMosaic

variable (x p z : FVec Ideal S16x100000 .f32) (r : Fin 16) (k : Fin 100000)

/-- The block's probabilities are the kernel's of each row. -/
theorem probs_apply : k0_pay1 (F := Ideal) x (ix2 r k) = Row.probK (Read.row x r) k := by
  unfold k0_pay1
  dsimp only
  rw [Read.mul_at, Read.exp_at, Read.spread, Read.div_at, Read.const_at, Row.ofBits_one, Read.column]
  exact congrArg (fun s => Ideal.exp (x (ix2 r k)) * Ideal.div 1 s)
    (Read.sum (n0 := 16) (n1 := 100000) reduces_S16x100000_S16 (exp x) (.inl rfl) rfl r)

/-- The scores the block compares. -/
def score : FVec Ideal S16x100000 .f32 :=
  divf (addf p (broadcast S16x100000 (Scalar.ofBits .f32 0x2EDBE6FF#32)))
    (addf (subf (broadcast S16x100000 (Scalar.ofBits .f32 0x00000000#32))
      (log (addf z (broadcast S16x100000 (Scalar.ofBits .f32 0x2EDBE6FF#32)))))
      (broadcast S16x100000 (Scalar.ofBits .f32 0x2EDBE6FF#32)))

/-- The scores, entry by entry. -/
theorem score_apply : score p z (ix2 r k) = Row.scoreK (Read.row p r k) (Read.row z r k) := by
  unfold score
  rw [Read.div_at, Read.add_at, Read.const_at, Read.add_at, Read.sub_at, Read.const_at, Read.log_at, Read.add_at,
    Read.const_at, Ideal.ofBits_zero_f32]
  rfl

/-- The row of scores. -/
theorem score_row : Read.row (score p z) r = fun j => Row.scoreK (Read.row p r j) (Read.row z r j) :=
  funext fun j => score_apply p z r j

/-- The words the block takes the smallest of: an entry's index where the entry is the row's greatest score. -/
def marks : IVec S16x100000 32 :=
  select (cmpf .oeq (score p z)
      (broadcastTo S16x100000
        (shapeCast S16x1 (multiReduction .maximumf [1] S16 (score p z) 0xFF800000#32 reduces_S16x100000_S16 (.inl rfl) rfl)
          shapeCasts_S16_S16x1) broadcasts_S16x1_S16x100000))
    (iota .tc S16x100000 32 [1] iota_S16x100000_d1_w32) (broadcast S16x100000 100000#32)

/-- The block's indices, from its scores. -/
theorem pay2_eq : k0_pay2 (F := Ideal) p z
    = shapeCast S16x1 (multiReductionI .minsi [1] S16 (marks p z) 2147483647#32 reduces_S16x100000_S16 rfl)
        shapeCasts_S16_S16x1 := by
  unfold k0_pay2 marks score
  dsimp only
  rw [shapeCast_self]

/-- The words, entry by entry. -/
theorem marks_apply [d : DecidablePred fun j => Read.row (score p z) r j = Row.top (Read.row (score p z) r)] :
    marks p z (ix2 r k) = if Read.row (score p z) r k = Row.top (Read.row (score p z) r) then BitVec.ofNat 32 k.val
      else 100000#32 := by
  have htop : broadcastTo S16x100000
      (shapeCast S16x1 (multiReduction .maximumf [1] S16 (score p z) 0xFF800000#32 reduces_S16x100000_S16 (.inl rfl) rfl)
        shapeCasts_S16_S16x1) broadcasts_S16x1_S16x100000 (ix2 r k) = Row.top (Read.row (score p z) r) := by
    rw [Read.spread, Read.column]
    exact Read.max (n0 := 16) (n1 := 100000) reduces_S16x100000_S16 (score p z) (.inl rfl) rfl r
  classical
  unfold marks
  rw [Read.mark, htop]
  exact if_congr Iff.rfl rfl rfl

/-- The block's index of a row is the first index of its greatest score. -/
theorem index_apply (hk : Row.IsFirst (fun j => Row.scoreK (Read.row p r j) (Read.row z r j)) k) (c : Fin 1) :
    k0_pay2 (F := Ideal) p z (ix2 r c) = BitVec.ofNat 32 k.val := by
  classical
  rw [← score_row] at hk
  rw [pay2_eq, Read.column]
  refine (Read.min (n0 := 16) (n1 := 100000) reduces_S16x100000_S16 (marks p z) rfl r).trans ?_
  rw [show Read.row (marks p z) r = _ from funext fun j => marks_apply p z r j]
  have htop : Read.row (score p z) r k = Row.top (Read.row (score p z) r) := by
    obtain ⟨m, hm⟩ := Row.exists_eq_top' (Read.row (score p z) r) k
    exact le_antisymm (Row.le_top _ _) (hm ▸ hk.1 m)
  exact Row.fold_min_eq (by decide) (Nat.le_refl _) _ k htop fun j hj => hk.2 j (hj.trans htop.symm)

end Cert.Proof.Block

end
-- ==== Proof.BlockStores.lean ====
/- What one grid point leaves in the two results' staging buffers: the block's probabilities of its logits, and the
   block's indices of those probabilities and its noise. The second store works on the probabilities read back
   from the first. -/
module

public import proofs.«01_k».proof.Proof.Gen.KernelIdeal.Frame
public import Idealize.ShloMosaic.Lib.Pipeline.Value
public import Idealize.ShloMosaic.Lib.Pipeline.ValueKit

@[expose] public section

noncomputable section

namespace Cert.Proof.Block

open Cert.KernelIdeal Cert.KernelIdeal.Gen Idealize.ShloMosaic Idealize.ShloMosaic.TcCoe Idealize.ShloMosaic.Tactic

variable {F : FTy → Type} [FloatOps F]

/-- The offsets of a whole block are zero. -/
theorem offsets_zero : (![0, 0] : Fin 2 → Nat) = fun _ => 0 := funext fun a => by fin_cases a <;> rfl

variable (c : Dev nD) (i : grid0.Coords) (a1 : Memref sig .tc .vmem S16x100000 .f32) (h1 : a1.IsWhole)
  (a2 : Memref sig .tc .vmem S16x100000 .f32) (h2 : a2.IsWhole) (a3 : Memref sig .tc .vmem S16x100000 .f32)
  (h3 : a3.IsWhole) (a4 : Memref sig .tc .vmem S16x1 .i32) (h4 : a4.IsWhole)
  (x z : Vec F S16x100000 .f32)

/-- The first result's buffer holds the probabilities of the block of logits. -/
theorem out_probs : out0_A_2 c i a1 h1 a2 h2 a3 h3 a4 h4 x z = k0_pay1 x := by
  unfold out0_A_2
  rw [View.read_writes_eq_canon _ _ _ (cover0_A_2 c i a1 h1 a2 h2 a3 h3 a4 h4 x z)]
  unfold kernelRun0_A
  dsimp only
  sl_unfold_words
  rw [View.canon_unit_zero offsets_zero]
  simp only [View.readAt_eq_ld, h1.read_unread, View.ld_unit_zero (S := S16x100000) offsets_zero, shapeCast_self]

/-- The second result's buffer holds the indices of those probabilities and the block of noise. -/
theorem out_index : out0_A_3 c i a1 h1 a2 h2 a3 h3 a4 h4 x z = k0_pay2 (k0_pay1 x) z := by
  unfold out0_A_3
  rw [View.read_writes_eq_canon _ _ _ (cover0_A_3 c i a1 h1 a2 h2 a3 h3 a4 h4 x z)]
  unfold kernelRun0_A
  dsimp only
  sl_unfold_words
  rw [View.canon_unit_zero offsets_zero]
  simp only [View.readAt_eq_ld, h1.read_unread, h2.read_unread, View.ld_unit_zero (S := S16x100000) offsets_zero,
    shapeCast_self]
  rw [View.readCov_unit_zero (S := S16x100000) _ offsets_zero]

end Cert.Proof.Block

end
-- ==== Proof.KernelArrays.lean ====
/- What the kernel's two result arrays hold after the run: block after block of sixteen rows they are filled with the
   probabilities and the chosen indices of the argument arrays' rows. -/
module

public import proofs.«01_k».proof.Proof.Gen.KernelIdeal.Value
public import proofs.«01_k».proof.Proof.BlockRows
public import proofs.«01_k».proof.Proof.BlockStores

@[expose] public section

noncomputable section

namespace Cert.Proof.Arrays

open Cert.KernelIdeal Cert.KernelIdeal.Gen Idealize.ShloMosaic Idealize.ShloMosaic.TcCoe Idealize.SL.Sem
open Idealize.ShloMosaic.Pipeline (Dat)

/-- The kernel's probabilities of an array of logits. -/
def probs (l : FVec Ideal S64x100000 .f32) : FVec Ideal S64x100000 .f32 := fun i => Row.probK (Read.row l (i 0)) (i 1)

/-- The kernel's scores of one row. -/
def score (l z : FVec Ideal S64x100000 .f32) (r : Fin 64) : Fin 100000 → EReal := fun k =>
  Row.scoreK (Row.probK (Read.row l r) k) (Read.row z r k)

/-- The kernel's chosen indices of arrays of logits and noise. -/
def index (l z : FVec Ideal S64x100000 .f32) : IVec S64x1 32 := fun i =>
  BitVec.ofNat 32 (Row.first (score l z (i 0))).val

variable (m : (ℓ : Loc nD τ sig) → Buf (Elt Ideal) ℓ) (ρ : Dev nD → PrngReg) (c : Dev nD)

/-- The windows' blocks at a grid point: sixteen rows from sixteen times the point. -/
theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- Row `a` of the block of logits read at point `t` is row `16 t + a` of the argument array. -/
theorem row_logits (t : Fin cfg0.N) (a : Fin 16) (b : Fin 64) (hb : b.val = t.val * 16 + a.val) :
    Read.row (iblk m c 0 t) a = Read.row (m ((c : Thread nD τ).loc main_arg0)) b := by
  funext k
  show iblk m c 0 t (ix2 a k) = m ((c : Thread nD τ).loc main_arg0) (ix2 b k)
  have e := idx0
  blk_simp [iblk, e]
  refine congrArg (m ((c : Thread nD τ).loc main_arg0)) ?_
  blk_ext [e, hb]

/-- So it is for the noise. -/
theorem row_noise (t : Fin cfg0.N) (a : Fin 16) (b : Fin 64) (hb : b.val = t.val * 16 + a.val) :
    Read.row (iblk m c 1 t) a = Read.row (m ((c : Thread nD τ).loc main_arg1)) b := by
  funext k
  show iblk m c 1 t (ix2 a k) = m ((c : Thread nD τ).loc main_arg1) (ix2 b k)
  have e := idx1
  blk_simp [iblk, e]
  refine congrArg (m ((c : Thread nD τ).loc main_arg1)) ?_
  blk_ext [e, hb]

/-- An entry of the first result's block. -/
theorem block_probs (t : Fin cfg0.N) (y : S16x100000.Idx) (i : S64x100000.Idx) (h0 : (i 0).val = t.val * 16 + (y 0).val)
    (h1 : (i 1).val = (y 1).val) : (outsAt0 m c t).1 y = probs (m ((c : Thread nD τ).loc main_arg0)) i := by
  unfold outsAt0
  dsimp only
  rw [Block.out_probs]
  refine (congrArg _ (ix2_eta y).symm).trans ((Block.probs_apply _ _ _).trans ?_)
  rw [row_logits m c t (y 0) (i 0) h0, show y 1 = i 1 from Fin.ext h1.symm]
  rfl

/-- An entry of the second result's block. -/
theorem block_index (t : Fin cfg0.N) (y : S16x1.Idx) (i : S64x1.Idx) (h0 : (i 0).val = t.val * 16 + (y 0).val) :
    (outsAt0 m c t).2 y =
      index (m ((c : Thread nD τ).loc main_arg0)) (m ((c : Thread nD τ).loc main_arg1)) i := by
  unfold outsAt0
  dsimp only
  rw [Block.out_index]
  refine (congrArg _ (ix2_eta y).symm).trans (Block.index_apply _ _ _ _ ?_ _)
  have hs : (fun j => Row.scoreK (Read.row (k0_pay1 (F := Ideal) (iblk m c 0 t)) (y 0) j)
      (Read.row (iblk m c 1 t) (y 0) j)) =
      score (m ((c : Thread nD τ).loc main_arg0)) (m ((c : Thread nD τ).loc main_arg1)) (i 0) := by
    funext j
    rw [row_noise m c t (y 0) (i 0) h0]
    refine congrArg (fun p => Row.scoreK p _) ((Block.probs_apply _ _ _).trans ?_)
    rw [row_logits m c t (y 0) (i 0) h0]
  rw [hs]
  exact Row.isFirst_first _

/-- The first result array. -/
theorem final_probs : (dats m 0 c).arrAt 2 cfg0.N = probs (m ((c : Thread nD τ).loc main_arg0)) := by
  refine (dats m 0 c).arrAt_eq_of_covers 2 _ (by decide +kernel) fun t hf y => ?_
  blk_simp
  rw [after0_2]
  have e := idx2
  exact block_probs m c t y _ (by blk_simp [e]) (by blk_simp [e])

/-- The second result array. -/
theorem final_index : (dats m 0 c).arrAt 3 cfg0.N =
    index (m ((c : Thread nD τ).loc main_arg0)) (m ((c : Thread nD τ).loc main_arg1)) := by
  refine (dats m 0 c).arrAt_eq_of_covers 3 _ (by decide +kernel) fun t hf y => ?_
  blk_simp
  rw [after0_3]
  have e := idx3
  exact block_index m c t y _ (by blk_simp [e])

end Cert.Proof.Arrays

end
-- ==== Proof.ReferenceValue.lean ====
/- What the reference's two results hold: the probabilities are the row mathematics' reference probabilities, and the
   index of a row is the first index of its greatest score. -/
module

public import proofs.«01_k».proof.Proof.ReferenceRun
public import proofs.«01_k».proof.Proof.ReadRows
public import proofs.«01_k».proof.Proof.ReadEntries

@[expose] public section

noncomputable section

namespace Cert.Proof.Ref

open Cert.ReferenceIdeal Cert.ReferenceIdeal.Gen Idealize.ShloMosaic

variable (l z : FVec Ideal S64x100000 .f32) (r : Fin 64) (k : Fin 100000)

/-- The spread row maximum is the row's greatest logit. -/
theorem rowMax_apply : rowMax l (ix2 r k) = max ⊥ (Row.top (Read.row l r)) := by
  unfold rowMax
  rw [Read.host_spread, Read.host_column, Read.max_at, Read.host_const_at, Read.host_max (hi := Row.ofBits_bot),
    Row.ofBits_bot]

/-- The exponentials, entry by entry. -/
theorem expo_apply : expo l (ix2 r k) = Ideal.exp (Read.row l r k - max ⊥ (Row.top (Read.row l r))) := by
  unfold expo
  rw [Read.host_exp_at, Read.sub_at, rowMax_apply l r k]
  rfl

/-- The spread row sum. -/
theorem rowSum_apply :
    rowSum l (ix2 r k) = 0 + ∑ j, Ideal.exp (Read.row l r j - max ⊥ (Row.top (Read.row l r))) := by
  unfold rowSum
  rw [Read.host_spread, Read.host_column, Read.host_sum_at, Read.host_sum, Ideal.ofBits_zero_f32]
  exact congrArg (0 + ·) (Finset.sum_congr rfl fun j _ => expo_apply l r j)

/-- The probabilities, entry by entry. -/
theorem probs_apply : probs l (ix2 r k) = Row.probR (Read.row l r) k := by
  unfold probs
  rw [Read.host_div_at, expo_apply, rowSum_apply]
  rfl

/-- The scores, entry by entry. -/
theorem score_apply : score l z (ix2 r k) = Row.scoreR (Row.probR (Read.row l r) k) (Read.row z r k) := by
  unfold score gumbel eps
  rw [Read.add_at, Read.host_log_at, Read.add_at, Read.host_const_at, probs_apply, Read.host_neg_at, Read.host_log_at,
    Read.add_at, Read.host_neg_at, Read.host_log_at, Read.add_at, Read.host_const_at]
  rfl

/-- The reference's reducer keeps the better of two pairs. -/
theorem reducer_keeps : Row.Keeps (reducer_argmax_f32_i32 (F := Ideal)) := by
  intro a b
  have hred : reducer_argmax_f32_i32 (F := Ideal) a b
      = if b.1 < a.1 ∨ (a.1 = b.1 ∧ a.2.toInt < b.2.toInt) then a else b := by
    obtain ⟨a1, a2⟩ := a
    obtain ⟨b1, b2⟩ := b
    unfold reducer_argmax_f32_i32
    simp only [Ideal.cmpf_def, Ideal.cmp, IntOp.cmpi, IntOp.ori, IntOp.andi, Scalar.select, BitVec.slt_eq_decide]
    by_cases h1 : b1 < a1 <;> by_cases h2 : a1 = b1 <;> by_cases h3 : a2.toInt < b2.toInt <;> simp [h1, h2, h3]
  rw [hred]
  split_ifs with h
  · refine ⟨.inl rfl, .refl a, ?_⟩
    rcases h with h | ⟨h, g⟩
    · exact .inl h
    · exact .inr ⟨h.symm, g.le⟩
  · rw [not_or, not_and, not_lt, not_lt] at h
    refine ⟨.inr rfl, ?_, .refl b⟩
    rcases h.1.lt_or_eq with g | g
    · exact .inl g
    · exact .inr ⟨g, h.2 g⟩

/-- The reducing operation itself ends a row at the first index of its greatest score. -/
theorem argmax_row (hk : Row.IsFirst (Read.row (score l z) r) k) :
    (Host.argReduce reducer_argmax_f32_i32 (score l z) (iotaInDim S64x100000 32 1) (constant S_ .f32 0xFF800000#32)
      (constantI S_ 32 0#32) reducesTo_S64x100000_S64_d1 h_S_ (ix1 r)).2 = BitVec.ofNat 32 k.val :=
  Read.host_index (n0 := 64) (n1 := 100000) (Nat.le_refl _) reducesTo_S64x100000_S64_d1 h_S_ reducer_keeps
    (score l z) (constant S_ .f32 0xFF800000#32) Row.ofBits_bot (constantI S_ 32 0#32) rfl r k hk

/-- The same of the named array of chosen indices. -/
theorem choice_row (hk : Row.IsFirst (Read.row (score l z) r) k) : choice l z (ix1 r) = BitVec.ofNat 32 k.val :=
  (congrFun (choice_eq l z) (ix1 r)).trans (argmax_row l z r k hk)

/-- The row of scores. -/
theorem score_row : Read.row (score l z) r = fun j => Row.scoreR (Row.probR (Read.row l r) j) (Read.row z r j) :=
  funext fun j => score_apply l z r j

/-- The chosen index of a row is the first index of its greatest score. -/
theorem index_apply
    (hk : Row.IsFirst (fun j => Row.scoreR (Row.probR (Read.row l r) j) (Read.row z r j)) k) (c : Fin 1) :
    index l z (ix2 r c) = BitVec.ofNat 32 k.val :=
  (Read.host_column bcast_S64_S64x1_0 (choice l z) r c).trans
    (choice_row l z r k (by rw [score_row]; exact hk))

end Cert.Proof.Ref

end
-- ==== Proof.Equation.lean ====
/- The equation of the two programs: on arguments in the precondition's domain the kernel's two arrays are the
   reference's. -/
module

public import proofs.«01_k».proof.Proof.KernelArrays
public import proofs.«01_k».proof.Proof.ReferenceValue

@[expose] public section

noncomputable section

namespace Cert.Proof.Equation

open Idealize.ShloMosaic Cert.KernelIdeal

variable (l z : FVec Ideal S64x100000 .f32)
  (h : ∀ (r : Fin 64) (k : Fin 100000),
    ⊥ < Row.top (Read.row l r) ∧ Row.top (Read.row l r) < ⊤ ∧ Read.row z r k ≤ 1)

include h

/-- The probabilities agree. -/
theorem probs_eq : Arrays.probs l = Ref.probs (F := Ideal) l := by
  funext i
  obtain ⟨hb, ht, -⟩ := h (i 0) (i 1)
  refine (Row.prob_eq (Read.row l (i 0)) hb ht (i 1)).trans ?_
  exact (Ref.probs_apply l (i 0) (i 1)).symm.trans (congrArg (Ref.probs (F := Ideal) l) (ix2_eta i))

/-- In every row the kernel's scores are the exponentials of the reference's. -/
theorem score_eq (r : Fin 64) : Arrays.score l z r =
    fun j => Ideal.exp (Row.scoreR (Row.probR (Read.row l r) j) (Read.row z r j)) := by
  funext j
  obtain ⟨hb, ht, hz⟩ := h r j
  obtain ⟨p, hp, hk, hr⟩ := Row.prob_real (Read.row l r) hb ht j
  unfold Arrays.score
  rw [hk, hr]
  exact Row.score_eq p hp _ hz

/-- The chosen indices agree. -/
theorem index_eq : Arrays.index l z = Ref.index (F := Ideal) l z := by
  funext i
  have hf : Row.IsFirst (fun j => Row.scoreR (Row.probR (Read.row l (i 0)) j) (Read.row z (i 0) j))
      (Row.first (Arrays.score l z (i 0))) := by
    refine Row.IsFirst.of_comp Row.exp_strictMono ?_
    rw [← score_eq l z h (i 0)]
    exact Row.isFirst_first _
  exact (Ref.index_apply l z (i 0) _ hf (i 1)).symm.trans (congrArg (Ref.index (F := Ideal) l z) (ix2_eta i))

end Cert.Proof.Equation

end
-- ==== Proof.lean ====
/- The certificate's claims, assembled: the frames of the three programs, and the equation of the kernel and the
   reference on the domain of the precondition. -/
module

public import proofs.«01_k».proof.Defs
public import proofs.«01_k».proof.Proof.Gen.Kernel.Frame
public import proofs.«01_k».proof.Proof.Gen.KernelIdeal.Value
public import proofs.«01_k».proof.Proof.Gen.ReferenceIdeal
public import proofs.«01_k».proof.Proof.ReferenceRun
public import proofs.«01_k».proof.Proof.Domain
public import proofs.«01_k».proof.Proof.Equation
public import Idealize.ShloMosaic.Lib.Claim

@[expose] public section

noncomputable section

namespace Cert.Proof

open Idealize.ShloMosaic Idealize.ShloMosaic.TcCoe Idealize.SL.Sem

instance : Cert.Pre_finite_maxima_noise_below_one.Facts := Domain.facts

/-- The kernel's run, its two results named as arrays of the arguments. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ fun r => ∀ c : Dev Cert.KernelIdeal.nD,
        r.2.mem ((c.tc : Thread Cert.KernelIdeal.nD Cert.KernelIdeal.τ).loc Cert.KernelIdeal.main_v0_0)
          = Arrays.probs (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_v0_1)
          = Arrays.index (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1) :=
  θ_run_mono (Cert.KernelIdeal.Value.run_blocks m g) fun _ h c =>
    ⟨(h c).1.trans (Arrays.final_probs m c), (h c).2.1.trans (Arrays.final_index m c), (h c).2.2⟩

/-- The kernel and the reference end with equal results. -/
theorem algebraic : Cert.algebraic_KernelIdeal_ReferenceIdeal_pre_finite_maxima_noise_below_one := by
  intro m g m' g' hpre hagree
  refine ⟨_, _, kernel_run m g, θ_run_mono (Ref.run m' g') fun _ h c => ?_⟩
  obtain ⟨h0, h1, h2, h3⟩ := h c
  obtain ⟨a0, a1⟩ := hagree c
  have hd := Domain.rows _ _ (hpre c)
  rw [a0] at h0
  rw [a0, a1] at h1
  exact ⟨h0.trans (Equation.probs_eq _ _ hd).symm, h1.trans (Equation.index_eq _ _ hd).symm, h2, h3⟩

/-- All the claims. -/
theorem claim : Cert.Claim :=
  ⟨Cert.Kernel.Gen.facts, Cert.KernelIdeal.Gen.facts, Cert.ReferenceIdeal.Gen.facts, Domain.facts,
    fun m g _ => Cert.Kernel.Gen.frame m g,
    fun m g _ => Cert.KernelIdeal.Gen.frame m g,
    fun m g _ => Cert.KernelIdeal.Gen.frame m g,
    fun m g _ => Ref.frame m g,
    fun m g _ => Ref.frame m g,
    trivial,
    algebraic⟩

end Cert.Proof

end
